-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_zero_one [hPre_labels_zero_one : Cert.Pre_labels_zero_one.Facts] (m : (ℓ : Loc Cert.KernelIdeal.nD Cert.KernelIdeal.τ Cert.KernelIdeal.sig) → Buf (Elt Ideal) ℓ) : Prop :=
  ∀ c : Dev Cert.KernelIdeal.nD,
    (Cert.Pre_labels_zero_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_zero_one [hPre_labels_zero_one : Cert.Pre_labels_zero_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_zero_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_zero_one [hKernelIdeal : Cert.KernelIdeal.Facts] [hPre_labels_zero_one : Cert.Pre_labels_zero_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_zero_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_zero_one [hReferenceIdeal : Cert.ReferenceIdeal.Facts] [hPre_labels_zero_one : Cert.Pre_labels_zero_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_zero_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labels_zero_one [hKernelIdeal : Cert.KernelIdeal.Facts] [hReferenceIdeal : Cert.ReferenceIdeal.Facts] [hPre_labels_zero_one : Cert.Pre_labels_zero_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_zero_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_zero_one : Cert.Pre_labels_zero_one.Facts),
    quiescent_Kernel (hKernel := hKernel)
    ∧ quiescent_KernelIdeal (hKernelIdeal := hKernelIdeal)
    ∧ quiescent_KernelIdeal_pre_labels_zero_one (hKernelIdeal := hKernelIdeal) (hPre_labels_zero_one := hPre_labels_zero_one)
    ∧ quiescent_ReferenceIdeal (hReferenceIdeal := hReferenceIdeal)
    ∧ quiescent_ReferenceIdeal_pre_labels_zero_one (hReferenceIdeal := hReferenceIdeal) (hPre_labels_zero_one := hPre_labels_zero_one)
    ∧ preserves_Kernel_KernelIdeal
    ∧ algebraic_KernelIdeal_ReferenceIdeal_pre_labels_zero_one (hKernelIdeal := hKernelIdeal) (hReferenceIdeal := hReferenceIdeal) (hPre_labels_zero_one := hPre_labels_zero_one)
-- ==== Pre_labels_zero_one.lean ====
abbrev S256x64 : Shape := ⟨2, ![256, 64]⟩
abbrev S256x14 : Shape := ⟨2, ![256, 14]⟩
abbrev S_ : Shape := ⟨0, ![]⟩

class Facts : Prop where
  bcast_S_S256x14 : S_.BroadcastsInDim S256x14 (![] : Fin 0 → Fin S256x14.rank)
  reducesTo_S256x14_S_d0_1 : S256x14.ReducesTo [0, 1] S_
  h_S_ : 0 < S_.numel

variable [Facts]

def fn {F : FTy → Type} [FloatOps F] (main_arg0 : FVec F S256x64 .f32) (main_arg1 : FVec F S256x14 .f32) : IVec S_ 1 :=
  let main_cst : FVec F S_ .f32 := constant S_ .f32 0x00000000#32
  let main_v0 : FVec F S256x14 .f32 := broadcastInDim S256x14 ![] bcast_S_S256x14 main_cst
  let main_v1 : IVec S256x14 1 := cmpf .oeq main_arg1 main_v0
  let main_cst_0 : FVec F S_ .f32 := constant S_ .f32 0x3F800000#32
  let main_v2 : FVec F S256x14 .f32 := broadcastInDim S256x14 ![] bcast_S_S256x14 main_cst_0
  let main_v3 : IVec S256x14 1 := cmpf .oeq main_arg1 main_v2
  let main_v4 : IVec S256x14 1 := ori main_v1 main_v3
  let main_c : IVec S_ 1 := constantI S_ 1 1#1
  let main_v5 : IVec S_ 1 := (fun x v => Host.reduce IntOp.andi x v reducesTo_S256x14_S_d0_1 h_S_) main_v4 main_c
  main_v5
-- ==== Kernel.lean ====
abbrev S256x64 : Shape := ⟨2, ![256, 64]⟩
abbrev S256x14 : Shape := ⟨2, ![256, 14]⟩
abbrev S1x1 : Shape := ⟨2, ![1, 1]⟩
abbrev S1 : Shape := ⟨1, ![1]⟩
abbrev S256x256 : Shape := ⟨2, ![256, 256]⟩
abbrev S256x1 : Shape := ⟨2, ![256, 1]⟩
abbrev S1x256 : Shape := ⟨2, ![1, 256]⟩
abbrev S256 : Shape := ⟨1, ![256]⟩
abbrev S16x1 : Shape := ⟨2, ![16, 1]⟩
abbrev S128x256 : Shape := ⟨2, ![128, 256]⟩
abbrev S128x256x1 : Shape := ⟨3, ![128, 256, 1]⟩
abbrev S128x1x256 : Shape := ⟨3, ![128, 1, 256]⟩
abbrev S128x256x256 : Shape := ⟨3, ![128, 256, 256]⟩
abbrev S16x256 : Shape := ⟨2, ![16, 256]⟩
abbrev S1x256x256 : Shape := ⟨3, ![1, 256, 256]⟩
abbrev S1x16x256 : Shape := ⟨3, ![1, 16, 256]⟩
abbrev S1x1x1 : Shape := ⟨3, ![1, 1, 1]⟩
abbrev S128x1 : Shape := ⟨2, ![128, 1]⟩
abbrev S1x256x1 : Shape := ⟨3, ![1, 256, 1]⟩
abbrev S1x1x256 : Shape := ⟨3, ![1, 1, 256]⟩

abbrev nBuf : Space → Nat
  | .hbm => 4
  | .vmem => 7
  | .smem => 0
  | _ => 0

abbrev bufTy : (tb : Table) → Fin (tcTables nBuf tb) → BufTy
  | .hbm, ⟨0, _⟩ => ⟨S256x64, .f32⟩
  | .hbm, ⟨1, _⟩ => ⟨S256x14, .f32⟩
  | .hbm, ⟨2, _⟩ => ⟨S1x1, .f32⟩
  | .hbm, ⟨3, _⟩ => ⟨S1, .f32⟩
  | .local _ .vmem, ⟨0, _⟩ => ⟨S256x64, .f32⟩
  | .local _ .vmem, ⟨1, _⟩ => ⟨S256x14, .f32⟩
  | .local _ .vmem, ⟨2, _⟩ => ⟨S1x1, .f32⟩
  | .local _ .vmem, ⟨3, _⟩ => ⟨S256x256, .f32⟩
  | .local _ .vmem, ⟨4, _⟩ => ⟨S256x256, .bf16⟩
  | .local _ .vmem, ⟨5, _⟩ => ⟨S256x256, .bf16⟩
  | .local _ .vmem, ⟨6, _⟩ => ⟨S256x1, .f32⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2_i32 : BitVec 32 := 2#32
  let v307 : BitVec 32 := Scalar.addi c0_i32 c2_i32
  let c1_i32 : BitVec 32 := 1#32
  ⟨c0_i32, v307, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v331 : BitVec 32 := Scalar.muli arg7 c128_i32
  let v332 : Index := Scalar.indexCast v331
  let c0_121 : Index := 0#32
  ![v332.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v331 : BitVec 32 := Scalar.muli arg7 c128_i32
  let v4317 : Index := Scalar.indexCast v331
  let c0_765 : Index := 0#32
  ![v4317.toNat, 0]
abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x14 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x64 : Shape := ⟨2, ![256, 64]⟩
abbrev S256x14 : Shape := ⟨2, ![256, 14]⟩
abbrev S14x256 : Shape := ⟨2, ![14, 256]⟩
abbrev S256x256 : Shape := ⟨2, ![256, 256]⟩
abbrev S_ : Shape := ⟨0, ![]⟩
abbrev S64x256 : Shape := ⟨2, ![64, 256]⟩
abbrev S256x256x1 : Shape := ⟨3, ![256, 256, 1]⟩
abbrev S256x1x256 : Shape := ⟨3, ![256, 1, 256]⟩
abbrev S256x256x256 : Shape := ⟨3, ![256, 256, 256]⟩
abbrev S256 : Shape := ⟨1, ![256]⟩
abbrev S1 : Shape := ⟨1, ![1]⟩

abbrev nBuf : Space → Nat
  | .hbm => 93
  | .vmem => 0
  | .smem => 0
  | _ => 0

abbrev bufTy : (tb : Table) → Fin (tcTables nBuf tb) → BufTy
  | .hbm, ⟨0, _⟩ => ⟨S256x64, .f32⟩
  | .hbm, ⟨1, _⟩ => ⟨S256x14, .f32⟩
  | .hbm, ⟨2, _⟩ => ⟨S14x256, .f32⟩
  | .hbm, ⟨3, _⟩ => ⟨S256x256, .f32⟩
  | .hbm, ⟨4, _⟩ => ⟨S256x256, .i32⟩
  | .hbm, ⟨5, _⟩ => ⟨S256x256, .i32⟩
  | .hbm, ⟨6, _⟩ => ⟨S_, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S64x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256x256x1, .f32⟩
  | .hbm, ⟨24, _⟩ => ⟨S256x1x256, .f32⟩
  | .hbm, ⟨25, _⟩ => ⟨S256x256x256, .f32⟩
  | .hbm, ⟨26, _⟩ => ⟨S256x256x256, .f32⟩
  | .hbm, ⟨27, _⟩ => ⟨S256x256x256, .i1⟩
  | .hbm, ⟨28, _⟩ => ⟨S_, .f32⟩
  | .hbm, ⟨29, _⟩ => ⟨S256x256x1, .f32⟩
  | .hbm, ⟨30, _⟩ => ⟨S256x256x1, .f32⟩
  | .hbm, ⟨31, _⟩ => ⟨S_, .f32⟩
  | .hbm, ⟨32, _⟩ => ⟨S256x1x256, .f32⟩
  | .hbm, ⟨33, _⟩ => ⟨S256x1x256, .f32⟩
  | .hbm, ⟨34, _⟩ => ⟨S256x256x256, .f32⟩
  | .hbm, ⟨35, _⟩ => ⟨S256x256x256, .f32⟩
  | .hbm, ⟨36, _⟩ => ⟨S256x256x256, .f32⟩
  | .hbm, ⟨37, _⟩ => ⟨S_, .f32⟩
  | .hbm, ⟨38, _⟩ => ⟨S_, .f32⟩
  | .hbm, ⟨39, _⟩ => ⟨S256x256x256, .f32⟩
  | .hbm, ⟨40, _⟩ => ⟨S256x256x256, .f32⟩
  | .hbm, ⟨41, _⟩ => ⟨S_, .f32⟩
  | .hbm, ⟨42, _⟩ => ⟨S256, .f32⟩
  | .hbm, ⟨43, _⟩ => ⟨S256x256x1, .f32⟩
  | .hbm, ⟨44, _⟩ => ⟨S256x1x256, .f32⟩
  | .hbm, ⟨45, _⟩ => ⟨S256x256x256, .f32⟩
  | .hbm, ⟨46, _⟩ => ⟨S256x256x256, .f32⟩
  | .hbm, ⟨47, _⟩ => ⟨S256x256x256, .f32⟩
  | .hbm, ⟨48, _⟩ => ⟨S_, .f32⟩
  | .hbm, ⟨49, _⟩ => ⟨S256x256x256, .f32⟩
  | .hbm, ⟨50, _⟩ => ⟨S256x256x256, .f32⟩
  | .hbm, ⟨51, _⟩ => ⟨S_, .f32⟩
  | .hbm, ⟨52, _⟩ => ⟨S256x256x256, .f32⟩
  | .hbm, ⟨53, _⟩ => ⟨S256x256x256, .f32⟩
  | .hbm, ⟨54, _⟩ => ⟨S256x256x256, .f32⟩
  | .hbm, ⟨55, _⟩ => ⟨S256x256x256, .f32⟩
  | .hbm, ⟨56, _⟩ => ⟨S256x256x256, .f32⟩
  | .hbm, ⟨57, _⟩ => ⟨S_, .f32⟩
  | .hbm, ⟨58, _⟩ => ⟨S256x256x256, .f32⟩
  | .hbm, ⟨59, _⟩ => ⟨S256x256x256, .i1⟩
  | .hbm, ⟨60, _⟩ => ⟨S256x256x256, .i1⟩
  | .hbm, ⟨61, _⟩ => ⟨S256x256x256, .f32⟩
  | .hbm, ⟨62, _⟩ => ⟨S_, .f32⟩
  | .hbm, ⟨63, _⟩ => ⟨S_, .f32⟩
  | .hbm, ⟨64, _⟩ => ⟨S256x256x256, .f32⟩
  | .hbm, ⟨65, _⟩ => ⟨S256x256x256, .f32⟩
  | .hbm, ⟨66, _⟩ => ⟨S_, .f32⟩
  | .hbm, ⟨67, _⟩ => ⟨S256, .f32⟩
  | .hbm, ⟨68, _⟩ => ⟨S_, .f32⟩
  | .hbm, ⟨69, _⟩ => ⟨S256, .f32⟩
  | .hbm, ⟨70, _⟩ => ⟨S256, .i1⟩
  | .hbm, ⟨71, _⟩ => ⟨S_, .f32⟩
  | .hbm, ⟨72, _⟩ => ⟨S_, .f32⟩
  | .hbm, ⟨73, _⟩ => ⟨S256, .f32⟩
  | .hbm, ⟨74, _⟩ => ⟨S256, .f32⟩
  | .hbm, ⟨75, _⟩ => ⟨S_, .f32⟩
  | .hbm, ⟨76, _⟩ => ⟨S256, .f32⟩
  | .hbm, ⟨77, _⟩ => ⟨S256, .i1⟩
  | .hbm, ⟨78, _⟩ => ⟨S256, .f32⟩
  | .hbm, ⟨79, _⟩ => ⟨S_, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S_, .f32⟩
  | .hbm, ⟨84, _⟩ => ⟨S_, .f32⟩
  | .hbm, ⟨85, _⟩ => ⟨S256x256x256, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .i1⟩
  | .hbm, ⟨90, _⟩ => ⟨S_, .f32⟩
  | .hbm, ⟨91, _⟩ => ⟨S_, .f32⟩
  | .hbm, ⟨92, _⟩ => ⟨S1, .f32⟩
  | _, _ => ⟨S256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_call1_v0 : Ref sig .tc := ⟨.hbm, 63, rfl⟩
abbrev main_call1_v1 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_call2_v0 : Ref sig .tc := ⟨.hbm, 72, rfl⟩
abbrev main_call2_v1 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_call3_v0 : Ref sig .tc := ⟨.hbm, 80, rfl⟩
abbrev main_call3_v1 : Ref sig .tc := ⟨.hbm, 81, rfl⟩
abbrev main_v55 : Ref sig .tc := ⟨.hbm, 82, rfl⟩
abbrev main_cst_15 : Ref sig .tc := ⟨.hbm, 83, rfl⟩
abbrev main_v56 : Ref sig .tc := ⟨.hbm, 84, rfl⟩
abbrev main_v57 : Ref sig .tc := ⟨.hbm, 85, rfl⟩
abbrev main_cst_16 : Ref sig .tc := ⟨.hbm, 86, rfl⟩
abbrev main_v58 : Ref sig .tc := ⟨.hbm, 87, rfl⟩
abbrev main_cst_17 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]
-- ==== Proof.Rows.lean ====
/- What one trip of the kernel's loop computes: 128 query rows, one number each. The kernel's text unrolls the rows; here
   ONE row is a function of its number (`rowVal`), a trip's block is the column of the 128 rows (`blockVal`), and
   `trip_pieces` states that a trip stores exactly that column. -/
module

public import proofs.«01_k».proof.Proof.Gen.KernelIdeal.Loops

@[expose] public section

noncomputable section

namespace Cert.KernelIdeal.Val

open Cert.KernelIdeal Cert.KernelIdeal.Gen Idealize.ShloMosaic Idealize.ShloMosaic.TcCoe Idealize.SL.Sem
open Facts

variable {F : FTy → Type} [FloatOps F]

/-- Row `q` of a block of 128 rows lies inside the block. -/
theorem slices_row (q : Fin 128) : S128x256.Slices ![q.val, 0] S1x256 :=
  ⟨rfl, fun a => match a with
    | ⟨0, _⟩ => by show q.val + 1 ≤ 128; omega
    | ⟨1, _⟩ => by show 0 + 256 ≤ 256; omega⟩

/-- Plane `q` of a block of 128 planes lies inside the block. -/
theorem slices_plane (q : Fin 128) : S128x256x256.Slices ![q.val, 0, 0] S1x256x256 :=
  ⟨rfl, fun a => match a with
    | ⟨0, _⟩ => by show q.val + 1 ≤ 128; omega
    | ⟨1, _⟩ => by show 0 + 256 ≤ 256; omega
    | ⟨2, _⟩ => by show 0 + 256 ≤ 256; omega⟩

/-- The numerator of ONE query row `q` of a block: with `d` the block's label distances, `e` their powers of two, `w` the
    values 0..15 and `we` their powers of two, and `r3` the clipped triplet terms, the sum over values `v` and columns `j` of
    (the sum of `r3[q, i, j]` over the `i` with `d[q, i] = v`) times (`2^v - 2^d[q, j]` where `v - d[q, j]` lies between
    0.5 and 2.5, else 0). -/
def rowVal (w we : FVec F S16x1 .bf16) (d e : FVec F S128x256 .bf16) (r3 : FVec F S128x256x256 .bf16) (q : Fin 128) :
    FVec F S1x1 .f32 :=
  have dRow : FVec F S1x256 .bf16 := extractStridedSlice S1x256 ![q.val, 0] d (slices_row q)
  have hot : FVec F S16x256 .bf16 := truncf .bf16 (sitofp .f32 (extui 32
    (cmpf .oeq (broadcastTo S16x256 dRow broadcasts_S1x256_S16x256) (broadcastTo S16x256 w broadcasts_S16x1_S16x256))
    natLt_1_32)) bitsLt_bf16_f32
  have plane : FVec F S256x256 .bf16 :=
    shapeCast S256x256 (extractStridedSlice S1x256x256 ![q.val, 0, 0] r3 (slices_plane q)) shapeCasts_S1x256x256_S256x256
  have p : FVec F S16x256 .f32 :=
    matmul dot_S16x256_S256x256_S16x256_1_0_0_1_n_n none hot plane (constant S16x256 .f32 0x00000000#32)
  have diff : FVec F S16x256 .bf16 :=
    subf (broadcastTo S16x256 w broadcasts_S16x1_S16x256) (broadcastTo S16x256 dRow broadcasts_S1x256_S16x256)
  have keep : IVec S16x256 1 := andi (cmpf .oge diff (broadcast S16x256 (Scalar.ofBits .bf16 0x3F00#16)))
    (cmpf .ole diff (broadcast S16x256 (Scalar.ofBits .bf16 0x4020#16)))
  have eRow : FVec F S1x256 .bf16 := extractStridedSlice S1x256 ![q.val, 0] e (slices_row q)
  have v : FVec F S16x256 .bf16 := select keep
    (subf (broadcastTo S16x256 we broadcasts_S16x1_S16x256) (broadcastTo S16x256 eRow broadcasts_S1x256_S16x256))
    (broadcast S16x256 (Scalar.ofBits .bf16 0x0000#16))
  have t : FVec F S16x256 .f32 := mulf p (extf .f32 v bitsLt_bf16_f32)
  broadcast S1x1 (extractAt ![0, 0, 0] (shapeCast S1x1x1
    (multiReduction .add [1, 2] S1 (shapeCast S1x16x256 t shapeCasts_S16x256_S1x16x256) 0x00000000#32
      reduces_S1x16x256_S1 (.inl rfl) rfl) shapeCasts_S1_S1x1x1) inpos_S1x1x1_p0_0_0)

set_option maxRecDepth 8192 in
/-- 128 unit rows stack to a column of 128. -/
theorem concatenates_rows (f : Fin 128 → FVec F S1x1 .f32) :
    Shape.Concatenates ((List.ofFn fun q : Fin 128 => (⟨S1x1, f q⟩ : (s : Shape) × (s.Idx → F .f32))).map (·.1)) S128x1 0 := by
  rw [List.map_ofFn]
  exact (by decide : Shape.Concatenates (List.ofFn fun _ : Fin 128 => S1x1) S128x1 0)

/-- The column of one trip: row `q` is `rowVal` of the block's distances `D`, and of the two similarity blocks, `SP` (with
    the margin added) and `S`. -/
def blockVal (w : FVec F S16x1 .bf16) (we : FVec F S16x1 .f32) (D : FVec F S128x256 .f32) (SP S : FVec F S128x256 .bf16) :
    FVec F S128x1 .f32 :=
  shapeCast S128x1 (concatenate S128x1 0 (List.ofFn fun q : Fin 128 => (⟨S1x1,
    rowVal w (truncf .bf16 we bitsLt_bf16_f32) (k0_pay6 D) (k0_pay7 D) (k0_pay8 SP S) q⟩ : (s : Shape) × (s.Idx → F .f32)))
    (concatenates_rows _)) shapeCasts_S128x1_S128x1

set_option maxRecDepth 16384 in
set_option maxHeartbeats 1000000 in
/-- A TRIP STORES ITS COLUMN: the pieces of trip `k` are one, the column `blockVal` of the rows the trip loads, at the
    trip's rows of the numerators. -/
theorem trip_pieces (𝒱 : Variants) (c : Dev nD) (bd : Option 𝒱.V) (arg0 : Memref sig .tc .vmem S256x64 .f32) (harg0 : arg0.IsWhole) (arg1 : Memref sig .tc .vmem S256x14 .f32) (harg1 : arg1.IsWhole) (arg2 : Memref sig .tc .vmem S1x1 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x1 .f32) (harg6 : arg6.IsWhole) (v304 : FVec F S16x1 .bf16) (v305 : FVec F S16x1 .f32) (X_arg3 : BufTy.Contents (Elt F) arg3.view.ty) (X_arg4 : BufTy.Contents (Elt F) arg4.view.ty) (X_arg5 : BufTy.Contents (Elt F) arg5.view.ty) (k : Fin k0_t1_loop.trips) :
    tripL_k0_t1 𝒱 c bd arg0 harg0 arg1 harg1 arg2 harg2 arg3 harg3 arg4 harg4 arg5 harg5 arg6 harg6 v304 v305 X_arg3 X_arg4 X_arg5 k
      = [⟨Rect.unit (s := S256x1) (k0_off2 k) S128x1.size (k0_off2_inb k), blockVal v304 v305
          (arg3.view.readAt (Elt F) (Rect.unit (s := S256x256) (k0_off1 k) S128x256.size (k0_off1_inb k)).toLoadRect X_arg3)
          (arg5.view.readAt (Elt F) (Rect.unit (s := S256x256) (k0_off1 k) S128x256.size (k0_off1_inb k)).toLoadRect X_arg5)
          (arg4.view.readAt (Elt F) (Rect.unit (s := S256x256) (k0_off1 k) S128x256.size (k0_off1_inb k)).toLoadRect X_arg4)⟩] := by
  unfold tripL_k0_t1 trip_k0_t1
  rfl

end Cert.KernelIdeal.Val

end
-- ==== Proof.Counts.lean ====
/- The kernel's counting pass. The kernel's text runs over the label distances 0..14 one after the other; here the pass is a
   recursion over the distance (`cum`, `zz`, `pairs`), and `pairs_eq` and `zz_eq` state that fifteen steps of it are the
   kernel's two results. -/
module

public import proofs.«01_k».proof.Proof.Gen.KernelIdeal.Skeleton

@[expose] public section

noncomputable section

namespace Cert.KernelIdeal.Val

open Cert.KernelIdeal Cert.KernelIdeal.Gen Idealize.ShloMosaic
open Facts

variable {F : FTy → Type} [FloatOps F]

/-- The f32 pattern of the distance `v`, for `v` below 15. -/
def litBits (v : ℕ) : BitVec 32 :=
  [0x00000000#32, 0x3F800000#32, 0x40000000#32, 0x40400000#32, 0x40800000#32, 0x40A00000#32, 0x40C00000#32, 0x40E00000#32,
    0x41000000#32, 0x41100000#32, 0x41200000#32, 0x41300000#32, 0x41400000#32, 0x41500000#32, 0x41600000#32].getD v 0#32

/-- The f32 pattern of `2 ^ v`, for `v` below 15. -/
def powBits (v : ℕ) : BitVec 32 :=
  [0x3F800000#32, 0x40000000#32, 0x40800000#32, 0x41000000#32, 0x41800000#32, 0x42000000#32, 0x42800000#32, 0x43000000#32,
    0x43800000#32, 0x44000000#32, 0x44800000#32, 0x45000000#32, 0x45800000#32, 0x46000000#32, 0x46800000#32].getD v 0#32

/-- A row whose every entry is the number of pattern `b`. -/
def lit (b : BitVec 32) : FVec F S1x256 .f32 := broadcast S1x256 (Scalar.ofBits .f32 b)

/-- How often the distance `v` occurs in each column of `D`. -/
def colCnt (D : FVec F S256x256 .f32) (v : ℕ) : FVec F S1x256 .f32 :=
  shapeCast S1x256 (multiReduction .add [0] S256
    (select (cmpf .oeq D (broadcast S256x256 (Scalar.ofBits .f32 (litBits v))))
      (broadcast S256x256 (Scalar.ofBits .f32 0x3F800000#32)) (broadcast S256x256 (Scalar.ofBits .f32 0x00000000#32)))
    0x00000000#32 reduces_S256x256_S256 (.inl rfl) rfl) shapeCasts_S256_S1x256

/-- How often a distance below `v` occurs in each column. -/
def cum (D : FVec F S256x256 .f32) : ℕ → FVec F S1x256 .f32
  | 0 => lit 0x00000000#32
  | v + 1 => addf (cum D v) (colCnt D v)

/-- The count of the distance `v - 2` in each column (zero for the first two). -/
def back (D : FVec F S256x256 .f32) : ℕ → FVec F S1x256 .f32
  | 0 => lit 0x00000000#32
  | 1 => lit 0x00000000#32
  | v + 2 => colCnt D v

/-- The running total of the pairs of entries of a column whose distances differ by one or two. -/
def pairs (D : FVec F S256x256 .f32) : ℕ → FVec F S1x256 .f32
  | 0 => lit 0x00000000#32
  | v + 1 => addf (pairs D v) (mulf (colCnt D v) (addf (back D (v + 1)) (back D v)))

/-- The running total of the denominators: `2 ^ v` times the count of `v` times (the count below less the count above). -/
def zz (D : FVec F S256x256 .f32) : ℕ → FVec F S1x256 .f32
  | 0 => lit 0x00000000#32
  | v + 1 => addf (zz D v) (mulf (mulf (lit (powBits v)) (colCnt D v))
      (subf (cum D v) (subf (lit 0x43800000#32) (cum D (v + 1)))))

set_option maxRecDepth 16384 in
/-- The kernel's pair counts are fifteen steps of `pairs`. -/
theorem pairs_eq (L : Vec F S256x14 .f32) (D : FVec F S256x256 .f32) (hD : k0_pay366 L = D) (Z O : F .f32)
    (hZ : FloatOps.ofBits (F := F) .f32 0x00000000#32 = Z) (hO : FloatOps.ofBits (F := F) .f32 0x3F800000#32 = O) :
    k0_pay423 D (k0_pay411 (k0_pay410 D) O Z) (k0_pay413 D)
        (k0_pay416 D (k0_pay404 D) (k0_pay406 D)
          (k0_pay409 D (k0_pay394 (k0_pay393 D) O Z) (k0_pay396 D)
            (k0_pay399 D (k0_pay387 D) (k0_pay389 D)
              (k0_pay392 D (k0_pay377 (k0_pay376 L) O Z) (k0_pay379 D)
                (k0_pay382 D k0_pay373 k0_pay374 k0_pay375 (k0_pay376 L) O Z) (k0_pay383 D))
              (k0_pay393 D) O Z)
            (k0_pay400 D))
          (k0_pay410 D) O Z)
        (k0_pay417 D) = pairs D 15 := by
  subst hD hZ hO
  rfl

set_option maxRecDepth 16384 in
/-- The kernel's denominators are fifteen steps of `zz`, stood up as a column. -/
theorem zz_eq (L : Vec F S256x14 .f32) (D : FVec F S256x256 .f32) (hD : k0_pay366 L = D) (Z O : F .f32)
    (hZ : FloatOps.ofBits (F := F) .f32 0x00000000#32 = Z) (hO : FloatOps.ofBits (F := F) .f32 0x3F800000#32 = O) :
    k0_pay424 D
        (k0_pay414 D
          (k0_pay407 D (k0_pay401 D (k0_pay390 D (k0_pay384 D k0_pay371 (k0_pay376 L) O Z)) (k0_pay393 D) O Z))
          (k0_pay410 D) O Z)
        (k0_pay415 D
          (k0_pay407 D (k0_pay401 D (k0_pay390 D (k0_pay384 D k0_pay371 (k0_pay376 L) O Z)) (k0_pay393 D) O Z))
          (k0_pay408 D (k0_pay397 D (k0_pay390 D (k0_pay384 D k0_pay371 (k0_pay376 L) O Z)) (k0_pay393 D) O Z)
            (k0_pay398 D (k0_pay390 D (k0_pay384 D k0_pay371 (k0_pay376 L) O Z))
              (k0_pay391 D (k0_pay380 D k0_pay371 (k0_pay376 L) O Z) (k0_pay381 D k0_pay371 k0_pay372 (k0_pay376 L) O Z)
                (k0_pay383 D) (k0_pay384 D k0_pay371 (k0_pay376 L) O Z) (k0_pay385 D k0_pay371 (k0_pay376 L) O Z)
                k0_pay386)
              (k0_pay393 D) O Z)
            (k0_pay400 D) (k0_pay401 D (k0_pay390 D (k0_pay384 D k0_pay371 (k0_pay376 L) O Z)) (k0_pay393 D) O Z)
            (k0_pay402 D (k0_pay390 D (k0_pay384 D k0_pay371 (k0_pay376 L) O Z)) (k0_pay393 D) O Z) k0_pay403)
          (k0_pay410 D) O Z)
        (k0_pay417 D)
        (k0_pay418 D
          (k0_pay407 D (k0_pay401 D (k0_pay390 D (k0_pay384 D k0_pay371 (k0_pay376 L) O Z)) (k0_pay393 D) O Z))
          (k0_pay410 D) O Z)
        (k0_pay419 D
          (k0_pay407 D (k0_pay401 D (k0_pay390 D (k0_pay384 D k0_pay371 (k0_pay376 L) O Z)) (k0_pay393 D) O Z))
          (k0_pay410 D) O Z)
        k0_pay420
      = transpose S256x1 [1, 0] (zz D 15) transposes_S1x256_p1_0_S256x1 := by
  subst hD hZ hO
  rfl

end Cert.KernelIdeal.Val

end
-- ==== Proof.Out.lean ====
/- What the kernel's one grid step leaves in its output block, as a function of the two inputs (`outVal`): `outsAt_eq`. -/
module

public import proofs.«01_k».proof.Proof.Gen.KernelIdeal.Frame
public import proofs.«01_k».proof.Proof.Rows
public import proofs.«01_k».proof.Proof.Counts
public import Idealize.ShloMosaic.Lib.Pipeline.Value
public import Idealize.ShloMosaic.Lib.Pointwise

@[expose] public section

noncomputable section

namespace Cert.KernelIdeal.Val

open Cert.KernelIdeal Cert.KernelIdeal.Gen Idealize.ShloMosaic Idealize.ShloMosaic.TcCoe Idealize.SL.Sem
open Facts

/-- Rows `128 k .. 128 k + 127` of a 256-row array. -/
def blk {α : Type} (k : Fin 2) (X : S256x256.Idx → α) : S128x256.Idx → α :=
  fun j => X (ix2 (n0 := 256) (n1 := 256) ⟨128 * k.val + (j 0).val, by
    have : (j 0).val < 128 := (j 0).isLt
    have := k.isLt
    omega⟩ ⟨(j 1).val, (j 1).isLt⟩)

variable {F : FTy → Type} [FloatOps F]

/-- The column of the 256 numerators: row `y` is row `y % 128` of block `y / 128`. -/
def numCol (D : FVec F S256x256 .f32) (SP S : FVec F S256x256 .bf16) : FVec F S256x1 .f32 := fun y =>
  have h : (y 0).val < 256 := (y 0).isLt
  blockVal k0_pay426 k0_pay427 (blk ⟨(y 0).val / 128, by omega⟩ D) (blk ⟨(y 0).val / 128, by omega⟩ SP)
    (blk ⟨(y 0).val / 128, by omega⟩ S) (ix2 (n0 := 128) (n1 := 1) ⟨(y 0).val % 128, by omega⟩ 0)

/-- The kernel's one number: the mean loss over the pairs, of the labels `L` and the features `H`. -/
def outVal (L : Vec F S256x14 .f32) (H : Vec F S256x64 .f32) : FVec F S1x1 .f32 :=
  k0_pay5 (pairs (k0_pay366 L) 15) (transpose S256x1 [1, 0] (zz (k0_pay366 L) 15) transposes_S1x256_p1_0_S256x1)
    (numCol (k0_pay368 L) (k0_pay370 H) (k0_pay369 H))

/-- Row `x` of block `k` of the numerators is row `128 k + x` of the column. -/
theorem numCol_at (D : FVec F S256x256 .f32) (SP S : FVec F S256x256 .bf16) (k : Fin 2) (x : S128x1.Idx) (y : S256x1.Idx)
    (hy : (y 0).val = 128 * k.val + (x 0).val) :
    blockVal k0_pay426 k0_pay427 (blk k D) (blk k SP) (blk k S) x = numCol D SP S y := by
  have hx : (x 0).val < 128 := (x 0).isLt
  have hk : (⟨(y 0).val / 128, by have : (y 0).val < 256 := (y 0).isLt; omega⟩ : Fin 2) = k := Fin.ext (by show _ / 128 = _; omega)
  unfold numCol
  dsimp only
  rw [hk]
  congr 1
  funext a
  fin_cases a
  · refine Fin.ext (?_ : (x 0).val = (y 0).val % 128)
    omega
  · refine Fin.ext (?_ : (x 1).val = 0)
    have : (x 1).val < 1 := (x 1).isLt
    omega

/-- Row `x` of the rectangle a trip stores to is row `128 k + x` of the column. -/
theorem off2_idx (k : Fin k0_t1_loop.trips) (x : S128x1.Idx) :
    (((Rect.unit (s := S256x1) (k0_off2 k) S128x1.size (k0_off2_inb k)).emb x) 0).val = 128 * k.val + (x 0).val := by
  refine (congrArg (· + 1 * (x 0).val) (congrFun (k0_off2_eq k) 0)).trans ?_
  show 128 * k.val + 1 * (x 0).val = _
  omega

/-- A row of the column lies in the rectangle of its trip. -/
theorem off2_mem (k : Fin k0_t1_loop.trips) (y : S256x1.Idx) (h : (y 0).val / 128 = k.val) :
    y ∈ (Rect.unit (s := S256x1) (k0_off2 k) S128x1.size (k0_off2_inb k)).set := by
  have h1 : (y 1).val < 1 := (y 1).isLt
  have hx : (Rect.unit (s := S256x1) (k0_off2 k) S128x1.size (k0_off2_inb k)).idx
      (ix2 (n0 := 128) (n1 := 1) ⟨(y 0).val % 128, by omega⟩ 0) = y := by
    funext a
    fin_cases a
    · refine Fin.ext ((off2_idx k _).trans ?_)
      show 128 * k.val + (y 0).val % 128 = (y 0).val
      omega
    · refine Fin.ext ?_
      refine (congrArg (· + 1 * 0) (congrFun (k0_off2_eq k) 1)).trans ?_
      show 0 = (y 1).val
      omega
  rw [← hx]
  exact LoadRect.idx_mem _ _

/-- A trip's load of a buffer written whole with `X` reads the trip's block of `X`. -/
theorem read_blk {e : EltTy} [∀ e, Nonempty (Elt F e)] {κ : Kind} {sp : Space} (v : View sig κ sp S256x256 e) (X : S256x256.Idx → Elt F e) (h) (k : Fin k0_t1_loop.trips) (k' : Fin 2)
    (hk : k.val = k'.val) :
    v.readAt (Elt F) (Rect.unit (s := S256x256) (k0_off1 k) S128x256.size (k0_off1_inb k)).toLoadRect
      (v.writes (Elt F) v.junk [⟨Rect.unit (s := S256x256) ![0, 0] ![256, 256] h, X⟩]) = blk k' X := by
  rw [View.readAt_writes_junk_eq_canon]
  rw [View.canon_unit_zero (S := S256x256) (funext fun a => by fin_cases a <;> rfl)]
  funext j
  unfold blk
  congr 1
  funext a
  apply Fin.ext
  refine (congrArg (· + 1 * (j a).val) (congrFun (k0_off1_eq k) a)).trans ?_
  fin_cases a
  · show 128 * k.val + 1 * (j 0).val = 128 * k'.val + (j 0).val
    omega
  · show 0 + 1 * (j 1).val = (j 1).val
    omega

set_option maxHeartbeats 1000000 in
/-- The two trips' pieces leave the numerators: reading them back reads `numCol`. -/
theorem read_numCol [∀ e, Nonempty (Elt F e)] (𝒱 : Variants) (c : Dev nD) (bd : Option 𝒱.V) (arg0 : Memref sig .tc .vmem S256x64 .f32) (harg0 : arg0.IsWhole) (arg1 : Memref sig .tc .vmem S256x14 .f32) (harg1 : arg1.IsWhole) (arg2 : Memref sig .tc .vmem S1x1 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x1 .f32) (harg6 : arg6.IsWhole)
    (v : View sig .tc .vmem S256x1 .f32) (D : S256x256.Idx → F .f32) (SP S : S256x256.Idx → F .bf16) (h3) (h4) (h5) (h6) (n : ℕ) (hn : n = 2) :
    v.readCov (pb_k0_t1 𝒱 c bd arg0 harg0 arg1 harg1 arg2 harg2 arg3 harg3 arg4 harg4 arg5 harg5 arg6 harg6 k0_pay426 k0_pay427
        (arg3.view.writes (Elt F) arg3.view.junk [⟨Rect.unit (s := S256x256) ![0, 0] ![256, 256] h3, D⟩])
        (arg4.view.writes (Elt F) arg4.view.junk [⟨Rect.unit (s := S256x256) ![0, 0] ![256, 256] h4, S⟩])
        (arg5.view.writes (Elt F) arg5.view.junk [⟨Rect.unit (s := S256x256) ![0, 0] ![256, 256] h5, SP⟩]) n)
      (Rect.unit (s := S256x1) ![0, 0] ![256, 1] h6).toLoadRect = numCol D SP S := by
  subst hn
  have ht : k0_t1_loop.trips = 2 := by decide
  have e1 := pb_k0_t1_succ 𝒱 c bd arg0 harg0 arg1 harg1 arg2 harg2 arg3 harg3 arg4 harg4 arg5 harg5 arg6 harg6 k0_pay426 k0_pay427
        (arg3.view.writes (Elt F) arg3.view.junk [⟨Rect.unit (s := S256x256) ![0, 0] ![256, 256] h3, D⟩])
        (arg4.view.writes (Elt F) arg4.view.junk [⟨Rect.unit (s := S256x256) ![0, 0] ![256, 256] h4, S⟩])
        (arg5.view.writes (Elt F) arg5.view.junk [⟨Rect.unit (s := S256x256) ![0, 0] ![256, 256] h5, SP⟩]) ⟨1, by rw [ht]; decide⟩
  have e0 := pb_k0_t1_succ 𝒱 c bd arg0 harg0 arg1 harg1 arg2 harg2 arg3 harg3 arg4 harg4 arg5 harg5 arg6 harg6 k0_pay426 k0_pay427
        (arg3.view.writes (Elt F) arg3.view.junk [⟨Rect.unit (s := S256x256) ![0, 0] ![256, 256] h3, D⟩])
        (arg4.view.writes (Elt F) arg4.view.junk [⟨Rect.unit (s := S256x256) ![0, 0] ![256, 256] h4, S⟩])
        (arg5.view.writes (Elt F) arg5.view.junk [⟨Rect.unit (s := S256x256) ![0, 0] ![256, 256] h5, SP⟩]) ⟨0, by rw [ht]; decide⟩
  simp only [trip_pieces, Nat.zero_add, Nat.reduceAdd] at e0 e1
  rw [e1, e0]
  rw [pb_k0_t1.eq_1]
  rw [read_blk _ _ h3 ⟨1, by rw [ht]; decide⟩ 1 rfl, read_blk _ _ h3 ⟨0, by rw [ht]; decide⟩ 0 rfl,
    read_blk _ _ h4 ⟨1, by rw [ht]; decide⟩ 1 rfl, read_blk _ _ h4 ⟨0, by rw [ht]; decide⟩ 0 rfl,
    read_blk _ _ h5 ⟨1, by rw [ht]; decide⟩ 1 rfl, read_blk _ _ h5 ⟨0, by rw [ht]; decide⟩ 0 rfl]
  rw [View.readCov_eq_canon']
  refine funext fun j => (View.canon_apply_of_pieces (numCol D SP S) _ ?_ _ ?_).trans ?_
  · intro p hp x
    simp only [List.cons_append, List.nil_append, List.mem_cons, List.not_mem_nil, or_false] at hp
    rcases hp with rfl | rfl
    · exact numCol_at D SP S 1 x _ (off2_idx _ x)
    · exact numCol_at D SP S 0 x _ (off2_idx _ x)
  · generalize (Rect.unit (s := S256x1) ![0, 0] ![256, 1] h6).toLoadRect.idx j = y
    have hy : (y 0).val < 256 := (y 0).isLt
    by_cases h : (y 0).val < 128
    · exact ⟨_, List.mem_cons_of_mem _ List.mem_cons_self, off2_mem _ y (by show _ = 0; omega)⟩
    · exact ⟨_, List.mem_cons_self, off2_mem _ y (by show _ = 1; omega)⟩
  · congr 1
    funext a
    refine Fin.ext ?_
    fin_cases a
    · show 0 + 1 * (j 0).val = (j 0).val
      omega
    · show 0 + 1 * (j 1).val = (j 1).val
      omega

set_option maxHeartbeats 1000000 in
/-- THE STEP'S OUTPUT: the grid step leaves `outVal` of the labels' block and the features' block. -/
theorem outsAt_eq [∀ e, Nonempty (Elt F e)] (m : (ℓ : Loc nD τ sig) → Buf (Elt F) ℓ) (c : Dev nD) (t : Fin cfg0.N) :
    outsAt0 m c t = outVal (iblk m c 1 t) (iblk m c 0 t) := by
  unfold outsAt0 out0_A_2
  rw [View.read_writes_eq_canon _ _ _ (cover0_A_2 c _ _ _ _ _ _ _ _ _ _ _ _ _ _ _ _)]
  unfold kernelRun0_A
  dsimp only
  sl_unfold_words
  simp only [View.readAt_eq_ld, (hs0_0 t).read_unread, (hs0_1 t).read_unread]
  rw [View.canon_unit_zero (funext fun a => by fin_cases a <;> rfl)]
  simp only [View.ld_unit_zero (S := S256x14) (off := ![0,0]) (funext fun a => by fin_cases a <;> rfl),
    View.ld_unit_zero (S := S256x64) (off := ![0,0]) (funext fun a => by fin_cases a <;> rfl)]
  generalize iblk m c 1 t = L
  generalize iblk m c 0 t = H
  rw [pairs_eq L _ rfl _ _ rfl rfl, zz_eq L _ rfl _ _ rfl rfl]
  unfold outVal
  congr 1
  exact read_numCol _ c _ _ _ _ _ _ _ _ _ _ _ _ _ _ _ _ _ _ _ _ _ _ _ _ rfl

end Cert.KernelIdeal.Val

end
-- ==== Proof.Result.lean ====
/- The kernel's run: its result array ends holding the one number `outVal` of the two arguments (`run`). -/
module

public import proofs.«01_k».proof.Proof.Out
public import Idealize.ShloMosaic.Lib.Pipeline.ValueKit
public import Idealize.ShloMosaic.Lib.StableHlo.Run
public import Idealize.ShloMosaic.Lib.Claim

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)
open Facts

variable {F : FTy → Type} [FloatOps F]
variable (m : (ℓ : Loc nD τ sig) → Buf (Elt F) ℓ) (ρ : Dev nD → PrngReg)

/-- Every window's block index at the one grid point. -/
theorem index_zero : ∀ t : Fin cfg0.N, win0_0.index t = ![0, 0] ∧ win0_1.index t = ![0, 0] ∧ win0_2.index t = ![0, 0] :=
  (by decide +kernel : ∀ t : Fin grid0.N, _)

/-- The one grid point. -/
def pt : Fin cfg0.N := ⟨0, by decide⟩

/-- The features' block is the features. -/
theorem iblk_zero (c : Dev nD) : iblk m c 0 pt = m ((c : Thread nD τ).loc main_arg0) := by
  blk_ext! [iblk, V, index_zero pt]

/-- The labels' block is the labels. -/
theorem iblk_one (c : Dev nD) : iblk m c 1 pt = m ((c : Thread nD τ).loc main_arg1) := by
  blk_ext! [iblk, V, index_zero pt]

/-- The kernel's output array after the run. -/
theorem final (c : Dev nD) : (dats m 0 c).arrAt 2 cfg0.N
    = outVal (m ((c : Thread nD τ).loc main_arg1)) (m ((c : Thread nD τ).loc main_arg0)) := by
  refine (dats m 0 c).arrAt_eq_of_after_last 2 pt (by decide +kernel) _ fun j => ?_
  blk_simp
  rw [after0_2, outsAt_eq, iblk_zero, iblk_one]

/-- What the lines after the launch leave in the result: the output array's one number. -/
theorem tail_eq (c : Dev nD) : Pipeline.afterTail₀ cfgs (dats m) 0 (V0 m) [hostOps1] c main_v0
    = fun _ => outVal (m ((c : Thread nD τ).loc main_arg1)) (m ((c : Thread nD τ).loc main_arg0)) (ix2 0 0) := by
  unfold Pipeline.afterTail₀
  show StableHlo.after hostOps1 _ (Proc.devRef .tc main_v0) = _
  after_results
  have h := Pipeline.withArrays_arr spec0 (by decide) c (V0 m c) (fun w => (dats m 0 c).arrAt w cfg0.N) 2
  refine (congrArg (fun (X : S1x1.Idx → F .f32) => shapeCast S1 X shapeCasts_S1x1_S1) (h.trans (final m c))).trans ?_
  funext i
  show outVal _ _ _ = _
  congr 1
  funext a
  fin_cases a
  · exact Subsingleton.elim (α := Fin 1) _ _
  · exact Subsingleton.elim (α := Fin 1) _ _

/-- THE KERNEL'S RUN: the result holds the number, and the arguments end unchanged. -/
theorem run : θ_run defs (onTc (τ := τ) (main (F := F))) ⟨m, fun _ => 0, ρ⟩ (fun r => ∀ c : Dev nD,
      r.2.mem ((c.tc : Thread nD τ).loc main_v0) = (fun _ => outVal (m ((c : Thread nD τ).loc main_arg1)) (m ((c : Thread nD τ).loc main_arg0)) (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono ?_ (θ_run_and (run_main m ρ) (unchanged m ρ))
  rintro r ⟨h, hu⟩ c
  refine ⟨?_, hu c⟩
  exact (h.rest_eq c main_v0 (by decide)).trans (tail_eq m c)

end Cert.KernelIdeal.Val

end
-- ==== Proof.Spec.lean ====
/- The loss as mathematics, with no program in sight. A query's row of label distances is a function `d : Fin 256 → ℕ`. The
   reference sums over all pairs `(i, j)` of images; the kernel first sorts the images by their distance and sums over the
   distances. This module states both ways and proves that they agree. -/
module

public import Idealize.ShloMosaic.Lib.Pointwise

@[expose] public section

noncomputable section

namespace Cert.Spec

open Idealize.ShloMosaic

/-! ## The pairs of a query -/

/-- The pair `(i, j)` counts towards the loss: `i` is further than `j`, by at most two. -/
def Near (d : Fin 256 → ℕ) (i j : Fin 256) : Prop := d j < d i ∧ d i ≤ d j + 2

instance (d : Fin 256 → ℕ) (i j : Fin 256) : Decidable (Near d i j) := inferInstanceAs (Decidable (_ ∧ _))

/-- A query's denominator: the sum of `2 ^ d i - 2 ^ d j` over all pairs with `d j < d i`. -/
def den (d : Fin 256 → ℕ) : ℝ := ∑ i, ∑ j, if d j < d i then 2 ^ d i - 2 ^ d j else 0

/-- A query's number of counted pairs. -/
def cnt (d : Fin 256 → ℕ) : ℝ := ∑ i, ∑ j, if Near d i j then 1 else 0

/-- A query's numerator: the sum of `(2 ^ d i - 2 ^ d j) * r i j` over the counted pairs. -/
def num (d : Fin 256 → ℕ) (r : Fin 256 → Fin 256 → EReal) : EReal :=
  ∑ i, ∑ j, if Near d i j then ((2 ^ d i - 2 ^ d j : ℝ) : EReal) * r i j else 0

/-- The loss from every query's denominator, count and numerator: each query's numerator over its denominator, summed, over the
    number of counted pairs. A query without a denominator gives nothing; without counted pairs the sum stays as it is. -/
def loss (z c n : Fin 256 → EReal) : EReal :=
  let l := ∑ q, if 0 < z q then Ideal.div (n q) (z q) else 0
  if 0 < ∑ q, c q then Ideal.div l (∑ q, c q) else l

/-! ## Counting by distance -/

/-- How many images have the distance `v`. -/
def cntAt (d : Fin 256 → ℕ) (v : ℕ) : ℝ := ∑ i, if d i = v then 1 else 0

/-- How many images have a distance below `v`. -/
def cntBelow (d : Fin 256 → ℕ) (v : ℕ) : ℝ := ∑ i, if d i < v then 1 else 0

/-- How many images have the distance `v - 2`; none for the first two distances. -/
def cntBack (d : Fin 256 → ℕ) : ℕ → ℝ
  | 0 => 0
  | 1 => 0
  | v + 2 => cntAt d v

/-- No distance is below zero. -/
theorem cntBelow_zero (d : Fin 256 → ℕ) : cntBelow d 0 = 0 := by simp [cntBelow]

/-- The count below `v + 1` is the count below `v` and the count at `v`. -/
theorem cntBelow_succ (d : Fin 256 → ℕ) (v : ℕ) : cntBelow d (v + 1) = cntBelow d v + cntAt d v := by
  unfold cntBelow cntAt
  rw [← Finset.sum_add_distrib]
  refine Finset.sum_congr rfl fun i _ => ?_
  rcases lt_trichotomy (d i) v with h | h | h
  · rw [if_pos (by omega), if_pos h, if_neg (by omega), add_zero]
  · rw [if_pos (by omega), if_neg (by omega), if_pos h, zero_add]
  · rw [if_neg (by omega), if_neg (by omega), if_neg (by omega), add_zero]

/-- Summing `g` over the images is summing over the distances, each as often as it occurs. -/
theorem sum_cntAt (d : Fin 256 → ℕ) (n : ℕ) (hd : ∀ i, d i < n) (g : ℕ → ℝ) :
    ∑ v ∈ Finset.range n, cntAt d v * g v = ∑ i, g (d i) := by
  unfold cntAt
  simp only [Finset.sum_mul, ite_mul, one_mul, zero_mul]
  rw [Finset.sum_comm]
  refine Finset.sum_congr rfl fun i _ => ?_
  rw [Finset.sum_ite_eq, if_pos (Finset.mem_range.2 (hd i))]

/-- The images further than `v` are all but those below `v + 1`. -/
theorem above_eq (d : Fin 256 → ℕ) (v : ℕ) : 256 - cntBelow d (v + 1) = ∑ j, if v < d j then (1 : ℝ) else 0 := by
  have h : (256 : ℝ) = ∑ _j : Fin 256, 1 := by simp
  rw [h, cntBelow, ← Finset.sum_sub_distrib]
  refine Finset.sum_congr rfl fun j _ => ?_
  by_cases hj : v < d j
  · rw [if_neg (by omega), if_pos hj, sub_zero]
  · rw [if_pos (by omega), if_neg hj, sub_self]

/-- The denominator by distances: `2 ^ v` times the count at `v` times (the count below less the count above). -/
theorem den_eq (d : Fin 256 → ℕ) (hd : ∀ i, d i < 15) :
    ∑ v ∈ Finset.range 15, 2 ^ v * cntAt d v * (cntBelow d v - (256 - cntBelow d (v + 1))) = den d := by
  have h := sum_cntAt d 15 hd fun v => 2 ^ v * (cntBelow d v - (256 - cntBelow d (v + 1)))
  rw [Finset.sum_congr rfl fun v _ => show 2 ^ v * cntAt d v * (cntBelow d v - (256 - cntBelow d (v + 1)))
    = cntAt d v * (2 ^ v * (cntBelow d v - (256 - cntBelow d (v + 1)))) by ring, h]
  simp only [above_eq]
  simp only [mul_sub, cntBelow, Finset.mul_sum, mul_ite, mul_one, mul_zero, Finset.sum_sub_distrib]
  rw [Finset.sum_comm (f := fun i j => if d i < d j then (2 : ℝ) ^ d i else 0), ← Finset.sum_sub_distrib]
  unfold den
  refine Finset.sum_congr rfl fun i _ => ?_
  rw [← Finset.sum_sub_distrib]
  refine Finset.sum_congr rfl fun j _ => ?_
  split <;> simp

/-- The counts at `v - 1` and `v - 2` together: the images below `v` by one or two. -/
theorem cntBack_add (d : Fin 256 → ℕ) (v : ℕ) :
    cntBack d (v + 1) + cntBack d v = ∑ j, if d j < v ∧ v ≤ d j + 2 then (1 : ℝ) else 0 := by
  match v with
  | 0 => simp [cntBack]
  | 1 =>
    rw [cntBack, cntBack, add_zero, cntAt]
    refine Finset.sum_congr rfl fun j _ => if_congr ?_ rfl rfl
    omega
  | v + 2 =>
    rw [cntBack, cntBack, cntAt, cntAt, ← Finset.sum_add_distrib]
    refine Finset.sum_congr rfl fun j _ => ?_
    by_cases h0 : d j = v
    · rw [if_neg (by omega), if_pos h0, if_pos (by omega), zero_add]
    · by_cases h1 : d j = v + 1
      · rw [if_pos h1, if_neg h0, if_pos (by omega), add_zero]
      · rw [if_neg h1, if_neg h0, if_neg (by omega), add_zero]

/-- The counted pairs by distances: an image at `v` meets those at `v - 1` and those at `v - 2`. -/
theorem cnt_eq (d : Fin 256 → ℕ) (hd : ∀ i, d i < 15) :
    ∑ v ∈ Finset.range 15, cntAt d v * (cntBack d (v + 1) + cntBack d v) = cnt d :=
  (sum_cntAt d 15 hd _).trans (Finset.sum_congr rfl fun i _ => cntBack_add d (d i))

/-! ## The numerator -/

/-- A sum of nonnegative extended reals times a number is the sum of the products. -/
theorem sum_mul_of_nonneg {ι : Type} [DecidableEq ι] (s : Finset ι) (f : ι → EReal) (hf : ∀ i, 0 ≤ f i) (c : EReal) :
    (∑ i ∈ s, f i) * c = ∑ i ∈ s, f i * c := by
  induction s using Finset.induction_on with
  | empty => simp
  | insert a s ha ih =>
    rw [Finset.sum_insert ha, Finset.sum_insert ha,
      EReal.right_distrib_of_nonneg (hf a) (Finset.sum_nonneg fun i _ => hf i), ih]

/-- The kernel's numerator: for each distance `v` and each image `j`, the hinges of the images at `v`, summed and weighted. -/
theorem num_eq (d : Fin 256 → ℕ) (hd : ∀ i, d i < 15) (r : Fin 256 → Fin 256 → EReal) (hr : ∀ i j, 0 ≤ r i j) :
    (∑ v : Fin 16, ∑ j, if d j < v.val ∧ v.val ≤ d j + 2 then
      (∑ i, (if d i = v.val then 1 else 0) * r i j) * ((2 ^ v.val - 2 ^ d j : ℝ) : EReal) else 0) = num d r := by
  have e : ∀ (v : Fin 16) (j : Fin 256), (if d j < v.val ∧ v.val ≤ d j + 2 then
      (∑ i, (if d i = v.val then 1 else 0) * r i j) * ((2 ^ v.val - 2 ^ d j : ℝ) : EReal) else 0)
      = ∑ i, if v = ⟨d i, (hd i).trans (by decide)⟩ then
          (if d j < v.val ∧ v.val ≤ d j + 2 then ((2 ^ v.val - 2 ^ d j : ℝ) : EReal) * r i j else 0) else 0 := by
    intro v j
    by_cases hv : d j < v.val ∧ v.val ≤ d j + 2
    · simp only [if_pos hv]
      rw [sum_mul_of_nonneg _ _ fun i => by split <;> simp [hr i j]]
      refine Finset.sum_congr rfl fun i _ => ?_
      by_cases hi : d i = v.val
      · rw [if_pos hi, if_pos (Fin.ext hi.symm), one_mul, mul_comm]
      · rw [if_neg hi, if_neg fun h => hi (by rw [h]), zero_mul, zero_mul]
    · simp [if_neg hv]
  simp only [e]
  rw [Finset.sum_congr rfl fun v _ => Finset.sum_comm, Finset.sum_comm]
  unfold num
  refine Finset.sum_congr rfl fun i _ => ?_
  rw [Finset.sum_comm]
  refine Finset.sum_congr rfl fun j _ => ?_
  rw [Finset.sum_ite_eq', if_pos (Finset.mem_univ _)]
  rfl

end Cert.Spec

end
-- ==== Proof.Nums.lean ====
/- The label distances and similarities of the two programs as functions of the arguments, and the numbers that the programs
   write as bit patterns. -/
module

public import proofs.«01_k».proof.Proof.Spec
public import proofs.«01_k».proof.Proof.Counts

@[expose] public section

noncomputable section

namespace Cert.Spec

open Idealize.ShloMosaic

/-! ## Labels, distances, similarities -/

/-- The labels `L` are the natural numbers `ℓ`, each zero or one. -/
structure Labels (L : FVec Ideal ⟨2, ![256, 14]⟩ .f32) (ℓ : Fin 256 → Fin 14 → ℕ) : Prop where
  le_one : ∀ i k, ℓ i k ≤ 1
  eq : ∀ i k, L (ix2 i k) = ((ℓ i k : ℝ) : EReal)

/-- The label distance of two images: how many labels they share, and zero for an image and itself. -/
def labelDist (ℓ : Fin 256 → Fin 14 → ℕ) (q i : Fin 256) : ℕ := if q = i then 0 else ∑ k, ℓ q k * ℓ i k

/-- The label distance does not depend on the order. -/
theorem labelDist_comm (ℓ : Fin 256 → Fin 14 → ℕ) (q i : Fin 256) : labelDist ℓ q i = labelDist ℓ i q := by
  unfold labelDist
  simp only [eq_comm (a := q), mul_comm]

/-- Fourteen labels give distances below fifteen. -/
theorem labelDist_lt {L : FVec Ideal ⟨2, ![256, 14]⟩ .f32} {ℓ : Fin 256 → Fin 14 → ℕ} (h : Labels L ℓ) (q i : Fin 256) :
    labelDist ℓ q i < 15 := by
  unfold labelDist
  split
  · decide
  · refine Nat.lt_succ_of_le ((Finset.sum_le_card_nsmul _ _ 1 fun k _ => ?_).trans (by simp))
    exact Nat.mul_le_mul (h.le_one q k) (h.le_one i k)

/-- Half of 64 less the product of two hash rows. -/
def sim (H : FVec Ideal ⟨2, ![256, 64]⟩ .f32) (q i : Fin 256) : EReal :=
  Ideal.ofBits .f32 0x3F000000#32 * (Ideal.ofBits .f32 0x42800000#32 - ∑ k, H (ix2 q k) * H (ix2 i k))

/-- The hinge of a pair: how far image `i` falls short of image `j` by the margin, and zero if it does not. -/
def hinge (H : FVec Ideal ⟨2, ![256, 64]⟩ .f32) (q i j : Fin 256) : EReal :=
  max (sim H q i - sim H q j + Ideal.ofBits .f32 0x40A00000#32) 0

/-- A hinge is not negative. -/
theorem hinge_nonneg (H : FVec Ideal ⟨2, ![256, 64]⟩ .f32) (q i j : Fin 256) : 0 ≤ hinge H q i j := le_max_right _ _

/-- Adding the margin before or after the subtraction is the same. -/
theorem hinge_eq (H : FVec Ideal ⟨2, ![256, 64]⟩ .f32) (q i j : Fin 256) :
    max (sim H q i + Ideal.ofBits .f32 0x40A00000#32 - sim H q j) 0 = hinge H q i j := by
  rw [hinge, sub_eq_add_neg, sub_eq_add_neg, add_right_comm]

/-- The loss of the arguments: every query's denominator, count and numerator, from its label distances and its hinges. -/
def answer (ℓ : Fin 256 → Fin 14 → ℕ) (H : FVec Ideal ⟨2, ![256, 64]⟩ .f32) : EReal :=
  loss (fun q => (den (labelDist ℓ q) : EReal)) (fun q => (cnt (labelDist ℓ q) : EReal)) (fun q => num (labelDist ℓ q) (hinge H q))

/-! ## Numbers -/

/-- A finite sum of reals is the sum of the reals read as extended reals. -/
theorem coe_sum {ι : Type} [DecidableEq ι] (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- A choice between reals is the choice between them as extended reals. -/
theorem coe_ite (p : Prop) [Decidable p] (x y : ℝ) : ((if p then x else y : ℝ) : EReal) = if p then (x : EReal) else (y : EReal) := by
  split <;> rfl

/-- The product of two label rows is their count of shared labels. -/
theorem dot_labels {L : FVec Ideal ⟨2, ![256, 14]⟩ .f32} {ℓ : Fin 256 → Fin 14 → ℕ} (h : Labels L ℓ) (q i : Fin 256) :
    ∑ k, L (ix2 q k) * L (ix2 i k) = ((((∑ k, ℓ q k * ℓ i k : ℕ)) : ℝ) : EReal) := by
  simp only [h.eq, ← EReal.coe_mul, ← coe_sum]
  push_cast
  rfl

/-- The pattern of a distance is that distance. -/
theorem ofBits_litBits (v : ℕ) (hv : v < 15) : Ideal.ofBits .f32 (KernelIdeal.Val.litBits v) = ((v : ℝ) : EReal) := by
  interval_cases v <;> simp [KernelIdeal.Val.litBits, Ideal.ofBits, Ideal.ieee, -EReal.coe_mul] <;> norm_num

/-- The pattern of a power of two is that power. -/
theorem ofBits_powBits (v : ℕ) (hv : v < 15) : Ideal.ofBits .f32 (KernelIdeal.Val.powBits v) = ((2 ^ v : ℝ) : EReal) := by
  interval_cases v <;> simp [KernelIdeal.Val.powBits, Ideal.ofBits, Ideal.ieee, -EReal.coe_mul, -EReal.coe_pow] <;> norm_num

/-- The pattern of 256. -/
theorem ofBits_256 : Ideal.ofBits .f32 0x43800000#32 = ((256 : ℝ) : EReal) := by
  simp [Ideal.ofBits, Ideal.ieee, -EReal.coe_mul]; norm_num

/-- The pattern of 2. -/
theorem ofBits_two : Ideal.ofBits .f32 0x40000000#32 = ((2 : ℝ) : EReal) := by
  simp [Ideal.ofBits, Ideal.ieee, -EReal.coe_mul]; norm_num

/-- The pattern of 1/2 in the short format. -/
theorem ofBits_half_bf16 : Ideal.ofBits .bf16 0x3F00#16 = ((1 / 2 : ℝ) : EReal) := by
  simp [Ideal.ofBits, Ideal.ieee, -EReal.coe_mul]; norm_num

/-- The pattern of 5/2 in the short format. -/
theorem ofBits_five_halves_bf16 : Ideal.ofBits .bf16 0x4020#16 = ((5 / 2 : ℝ) : EReal) := by
  simp [Ideal.ofBits, Ideal.ieee, -EReal.coe_mul]; norm_num

/-- Two to a natural number, by the device's exponential. -/
theorem exp2_nat (n : ℕ) : Ideal.exp2 ((n : ℝ) : EReal) = ((2 ^ n : ℝ) : EReal) :=
  congrArg Real.toEReal (Real.rpow_natCast 2 n)

/-- Two to a natural number, by the host's power. -/
theorem pow_two_nat (n : ℕ) : Ideal.pow ((2 : ℝ) : EReal) ((n : ℝ) : EReal) = ((2 ^ n : ℝ) : EReal) :=
  (Ideal.pow_coe_coe 2 n).trans (congrArg Real.toEReal (Real.rpow_natCast 2 n))

end Cert.Spec

end
-- ==== Proof.KernelValue.lean ====
/- The kernel's result in exact arithmetic. Its columns of counts are the counts of `Cert.Spec`, its numerators the sums over the
   distances, and so its result is `Cert.Spec.answer`. -/
module

public import proofs.«01_k».proof.Proof.Nums
public import proofs.«01_k».proof.Proof.Out

@[expose] public section

noncomputable section

namespace Cert.KernelIdeal.Val

open Cert.KernelIdeal Cert.KernelIdeal.Gen Cert.Spec Idealize.ShloMosaic
open Facts

variable {L : Vec Ideal S256x14 .f32} {H : Vec Ideal S256x64 .f32} {ℓ : Fin 256 → Fin 14 → ℕ}

/-- Two row numbers are equal as words exactly when they are equal. -/
theorem cmpi_rows {α : Type} (i j : Fin 256) (x y : α) :
    Scalar.select (IntOp.cmpi .eq (BitVec.ofNat 32 i) (BitVec.ofNat 32 j)) x y = if i = j then x else y := by
  have h : (BitVec.ofNat 32 i = BitVec.ofNat 32 j) ↔ i = j := by
    rw [← BitVec.toNat_inj, BitVec.toNat_ofNat, BitVec.toNat_ofNat, Nat.mod_eq_of_lt (by omega), Nat.mod_eq_of_lt (by omega),
      Fin.val_inj]
  by_cases e : i = j
  · subst e; simp [Scalar.select, IntOp.cmpi]
  · rw [if_neg e, IntOp.cmpi, beq_eq_false_iff_ne.2 fun w => e (h.1 w)]
    rfl

/-- The kernel's matrix of label distances. -/
theorem dist_read (h : Labels L ℓ) (i j : Fin 256) : k0_pay366 L (ix2 i j) = ((labelDist ℓ i j : ℝ) : EReal) := by
  pointwise [k0_pay366]
  rw [cmpi_rows, dot_labels h, labelDist]
  split <;> simp

/-- The kernel's matrix of similarities. -/
theorem sim_read (i j : Fin 256) : k0_pay367 H (ix2 i j) = sim H i j := by
  pointwise [k0_pay367]
  rfl

/-! ## The counting pass -/

section Count

variable (D : FVec Ideal S256x256 .f32) (d : Fin 256 → ℕ) (q : Fin 256) (hD : ∀ x, D (ix2 x q) = ((d x : ℝ) : EReal))

include hD

/-- The count of a distance in a column. -/
theorem colCnt_read (v : ℕ) (hv : v < 15) : colCnt D v (ix2 0 q) = (cntAt d v : EReal) := by
  pointwise [colCnt]
  rw [cntAt, coe_sum]
  refine Finset.sum_congr rfl fun x _ => ?_
  rw [hD, ofBits_litBits v hv, coe_ite]
  refine if_congr ?_ rfl rfl
  rw [EReal.coe_eq_coe_iff, Nat.cast_inj]

/-- The count of the distances below `v`, in a column. -/
theorem cum_read (v : ℕ) (hv : v ≤ 15) : cum D v (ix2 0 q) = (cntBelow d v : EReal) := by
  induction v with
  | zero => pointwise [cum, lit]; simp [cntBelow_zero]
  | succ v ih =>
    rw [cntBelow_succ, EReal.coe_add, ← ih (by omega), ← colCnt_read D d q hD v (by omega)]
    rfl

/-- The count of the distance two below, in a column. -/
theorem back_read (v : ℕ) (hv : v < 17) : back D v (ix2 0 q) = (cntBack d v : EReal) := by
  match v with
  | 0 => pointwise [back, lit]; simp [cntBack]
  | 1 => pointwise [back, lit]; simp [cntBack]
  | v + 2 => exact colCnt_read D d q hD v (by omega)

/-- The pair counts, as far as they have come. -/
theorem pairs_read (v : ℕ) (hv : v ≤ 15) :
    pairs D v (ix2 0 q) = ((∑ u ∈ Finset.range v, cntAt d u * (cntBack d (u + 1) + cntBack d u) : ℝ) : EReal) := by
  induction v with
  | zero => pointwise [pairs, lit]; simp
  | succ v ih =>
    rw [Finset.sum_range_succ, EReal.coe_add, EReal.coe_mul, EReal.coe_add, ← ih (by omega), ← colCnt_read D d q hD v (by omega),
      ← back_read D d q hD v (by omega), ← back_read D d q hD (v + 1) (by omega)]
    rfl

/-- The denominators, as far as they have come. -/
theorem zz_read (v : ℕ) (hv : v ≤ 15) : zz D v (ix2 0 q)
    = ((∑ u ∈ Finset.range v, 2 ^ u * cntAt d u * (cntBelow d u - (256 - cntBelow d (u + 1))) : ℝ) : EReal) := by
  induction v with
  | zero => pointwise [zz, lit]; simp
  | succ v ih =>
    rw [Finset.sum_range_succ, EReal.coe_add, EReal.coe_mul, EReal.coe_mul, EReal.coe_sub, EReal.coe_sub, ← ih (by omega),
      ← colCnt_read D d q hD v (by omega), ← cum_read D d q hD v (by omega), ← cum_read D d q hD (v + 1) (by omega),
      ← ofBits_powBits v (by omega), ← ofBits_256]
    rfl

end Count

/-! ## The numerators -/

/-- The distances a numerator runs over. -/
theorem weights_read (v : Fin 16) : (k0_pay425 (F := Ideal)) (ix2 v 0) = ((v.val : ℝ) : EReal) := by
  pointwise [k0_pay425]
  exact congrArg (fun z : ℤ => ((z : ℝ) : EReal)) (by fin_cases v <;> rfl : (BitVec.ofNat 32 v.val).toInt = (v.val : ℤ))

/-- A comparison's bit, widened and read as a number. -/
theorem bit_sitofp (p : Prop) [Decidable p] :
    FloatOps.sitofp (F := Ideal) .f32 (BitVec.setWidth 32 (BitVec.ofBool (decide p))) = if p then (1 : EReal) else 0 := by
  by_cases h : p
  · rw [if_pos h, decide_eq_true h]
    exact congrArg (fun z : ℤ => ((z : ℝ) : EReal)) (by decide : (BitVec.setWidth 32 (BitVec.ofBool true)).toInt = 1) |>.trans (by simp)
  · rw [if_neg h, decide_eq_false h]
    exact congrArg (fun z : ℤ => ((z : ℝ) : EReal)) (by decide : (BitVec.setWidth 32 (BitVec.ofBool false)).toInt = 0) |>.trans (by simp)

/-- A distance `v` passes the kernel's two comparisons with `a` exactly when it is above `a` by one or two. -/
theorem near_bits {α : Type} (v a : ℕ) (x y : α) :
    Scalar.select (IntOp.andi (BitVec.ofBool (decide ((1 / 2 : ℝ) ≤ (v : ℝ) - a))) (BitVec.ofBool (decide ((v : ℝ) - a ≤ (5 / 2 : ℝ))))) x y
      = if a < v ∧ v ≤ a + 2 then x else y := by
  have h1 : (1 / 2 : ℝ) ≤ (v : ℝ) - a ↔ a < v := by
    constructor
    · intro h
      have : (a : ℝ) < v := by linarith
      exact_mod_cast this
    · intro h
      have : (a : ℝ) + 1 ≤ v := by exact_mod_cast h
      linarith
  have h2 : (v : ℝ) - a ≤ (5 / 2 : ℝ) ↔ v ≤ a + 2 := by
    constructor
    · intro h
      have : (v : ℝ) < (a : ℝ) + 3 := by linarith
      have : v < a + 3 := by exact_mod_cast this
      omega
    · intro h
      have : (v : ℝ) ≤ a + 2 := by exact_mod_cast h
      linarith
  simp only [h1, h2]
  by_cases p : a < v <;> by_cases q : v ≤ a + 2 <;> simp [p, q, Scalar.select, IntOp.andi]

/-- A query's numerator as the kernel sums it. -/
theorem rowVal_read (w we : FVec Ideal S16x1 .bf16) (d e : FVec Ideal S128x256 .bf16) (r3 : FVec Ideal S128x256x256 .bf16)
    (q : Fin 128) (n : Fin 256 → ℕ) (hn : ∀ i, n i < 15) (r : Fin 256 → Fin 256 → EReal) (hr : ∀ i j, 0 ≤ r i j)
    (hw : ∀ v : Fin 16, w (ix2 v 0) = ((v.val : ℝ) : EReal)) (hwe : ∀ v : Fin 16, we (ix2 v 0) = ((2 ^ v.val : ℝ) : EReal))
    (hd : ∀ i, d (ix2 q i) = ((n i : ℝ) : EReal)) (he : ∀ i, e (ix2 q i) = ((2 ^ n i : ℝ) : EReal))
    (hr3 : ∀ i j, r3 (ix3 q i j) = r i j) : rowVal w we d e r3 q (ix2 0 0) = num n r := by
  pointwise [rowVal]
  rw [← num_eq n hn r hr]
  refine Finset.sum_congr rfl fun v _ => Finset.sum_congr rfl fun j _ => ?_
  simp only [hw, hwe, hd, he, hr3, bit_sitofp, ofBits_half_bf16, ofBits_five_halves_bf16, ← EReal.coe_sub, EReal.coe_le_coe_iff,
    EReal.coe_eq_coe_iff, Nat.cast_inj, near_bits]

/-- A block's column at row `q` is the number of row `q`. -/
theorem blockVal_read (w : FVec Ideal S16x1 .bf16) (we : FVec Ideal S16x1 .f32) (D : FVec Ideal S128x256 .f32)
    (SP S : FVec Ideal S128x256 .bf16) (q : Fin 128) : blockVal w we D SP S (ix2 q 0)
      = rowVal w (truncf .bf16 we bitsLt_bf16_f32) (k0_pay6 D) (k0_pay7 D) (k0_pay8 SP S) q (ix2 0 0) := by
  unfold blockVal
  pointwise

/-- The column of numerators holds every query's numerator. -/
theorem numCol_read (h : Labels L ℓ) (q : Fin 256) :
    numCol (k0_pay368 L) (k0_pay370 H) (k0_pay369 H) (ix2 q 0) = num (labelDist ℓ q) (hinge H q) := by
  have hq : (⟨128 * (q.val / 128) + q.val % 128, by omega⟩ : Fin 256) = q := Fin.ext (Nat.div_add_mod _ _)
  have hb : ∀ {α : Type} (X : S256x256.Idx → α) (i : Fin 256),
      blk ⟨q.val / 128, by omega⟩ X (ix2 (n0 := 128) ⟨q.val % 128, by omega⟩ i) = X (ix2 q i) :=
    fun X i => congrArg (fun p : Fin 256 => X (ix2 p i)) hq
  have hD : ∀ i, k0_pay368 L (ix2 q i) = ((labelDist ℓ q i : ℝ) : EReal) := fun i => by
    refine Eq.trans ?_ (dist_read h q i)
    pointwise [k0_pay368]
  have hS : ∀ i, k0_pay369 H (ix2 q i) = sim H q i := fun i => by
    refine Eq.trans ?_ (sim_read q i)
    pointwise [k0_pay369]
  have hSP : ∀ i, k0_pay370 H (ix2 q i) = sim H q i + Ideal.ofBits .f32 0x40A00000#32 := fun i => by
    rw [← sim_read q i]
    pointwise [k0_pay370]
  refine (blockVal_read _ _ _ _ _ _).trans (rowVal_read _ _ _ _ _ _ _ (fun i => labelDist_lt h q i) _ (hinge_nonneg H q)
    (fun v => ?_) (fun v => ?_) (fun i => ?_) (fun i => ?_) fun i j => ?_)
  · exact weights_read v
  · refine (?_ : _ = Ideal.exp2 (k0_pay425 (F := Ideal) (ix2 v 0))).trans ?_
    · rfl
    · rw [weights_read, exp2_nat]
  · refine Eq.trans ?_ ((hb _ i).trans (hD i))
    pointwise [k0_pay6]
  · refine (?_ : _ = Ideal.exp2 (blk ⟨q.val / 128, by omega⟩ (k0_pay368 L) (ix2 (n0 := 128) ⟨q.val % 128, by omega⟩ i))).trans ?_
    · rfl
    · rw [hb, hD, exp2_nat]
  · rw [← hinge_eq, ← hSP, ← hS, ← hb (k0_pay370 H), ← hb (k0_pay369 H)]
    pointwise [k0_pay8]

/-- The kernel's number is the loss. -/
theorem outVal_read (h : Labels L ℓ) : outVal L H (ix2 0 0) = answer ℓ H := by
  have hc : ∀ q, pairs (k0_pay366 L) 15 (ix2 0 q) = (cnt (labelDist ℓ q) : EReal) := fun q => by
    rw [pairs_read _ (labelDist ℓ q) q (fun x => (dist_read h x q).trans (by rw [labelDist_comm])) 15 le_rfl,
      cnt_eq _ fun i => labelDist_lt h q i]
  have hz : ∀ q, zz (k0_pay366 L) 15 (ix2 0 q) = (den (labelDist ℓ q) : EReal) := fun q => by
    rw [zz_read _ (labelDist ℓ q) q (fun x => (dist_read h x q).trans (by rw [labelDist_comm])) 15 le_rfl,
      den_eq _ fun i => labelDist_lt h q i]
  pointwise [outVal, k0_pay5]
  simp only [numCol_read h, hc, hz, Fin.sum_univ_one]
  have e : ∀ z n : EReal, (if 0 < z then Ideal.div n (if 0 < z then z else 1) else 0) = if 0 < z then Ideal.div n z else 0 :=
    fun z n => by split <;> simp [*]
  simp only [e]
  rfl

end Cert.KernelIdeal.Val

end
-- ==== Proof.RefValue.lean ====
/- The reference's result in exact arithmetic: operation by operation it is `Cert.Spec.answer`. -/
module

public import proofs.«01_k».proof.Proof.Nums
public import proofs.«01_k».proof.Proof.Gen.ReferenceIdeal.Read

@[expose] public section

noncomputable section

namespace Cert.ReferenceIdeal.Val

open Cert.ReferenceIdeal Cert.ReferenceIdeal.Read Cert.Spec Idealize.ShloMosaic
open Facts

variable {L : Vec Ideal S256x14 .f32} {H : Vec Ideal S256x64 .f32} {ℓ : Fin 256 → Fin 14 → ℕ}

/-- One less the identity matrix's entry, in numbers. -/
theorem off_diagonal (i j : Fin 256) :
    (1 : EReal) - FloatOps.uitofp (F := Ideal) .f32 (IntOp.cmpi .eq (IntOp.addi (BitVec.ofNat 32 i) 0#32) (BitVec.ofNat 32 j))
      = if i = j then 0 else 1 := by
  have h : (BitVec.ofNat 32 i = BitVec.ofNat 32 j) ↔ i = j := by
    rw [← BitVec.toNat_inj, BitVec.toNat_ofNat, BitVec.toNat_ofNat, Nat.mod_eq_of_lt (by omega), Nat.mod_eq_of_lt (by omega),
      Fin.val_inj]
  rw [IntOp.addi, BitVec.add_zero, IntOp.cmpi]
  by_cases e : i = j
  · rw [if_pos e, beq_iff_eq.2 (h.2 e)]
    refine (congrArg (fun z : ℕ => (1 : EReal) - ((z : ℝ) : EReal)) (by decide : (BitVec.ofBool true).toNat = 1)).trans ?_
    rw [Nat.cast_one, EReal.coe_one]
    exact EReal.sub_self (by decide) (by decide)
  · rw [if_neg e, beq_eq_false_iff_ne.2 fun w => e (h.1 w)]
    refine (congrArg (fun z : ℕ => (1 : EReal) - ((z : ℝ) : EReal)) (by decide : (BitVec.ofBool false).toNat = 0)).trans ?_
    simp

/-- The reference's matrix of label distances. -/
theorem dist_read (h : Labels L ℓ) (i j : Fin 256) : val_main_v10 L (ix2 i j) = ((labelDist ℓ i j : ℝ) : EReal) := by
  pointwise [val_main_v10, val_main_v9, val_main_v8, val_main_v7, val_main_v6, val_main_v5, val_main_v4, val_main_v3, val_main_v2,
    val_main_v1, val_main_v0, val_main_cst, val_main_c]
  rw [off_diagonal, dot_labels h, labelDist]
  split <;> simp

/-- The reference's matrix of similarities. -/
theorem sim_read (i j : Fin 256) : val_main_v16 H (ix2 i j) = sim H i j := by
  pointwise [val_main_v16, val_main_v15, val_main_v14, val_main_v13, val_main_v12, val_main_v11, val_main_cst_0, val_main_cst_1]
  rfl

/-- The weight of a triplet: a difference of powers of two. -/
theorem weight_read (h : Labels L ℓ) (q i j : Fin 256) :
    val_main_v28 L (ix3 q i j) = ((2 ^ labelDist ℓ q i - 2 ^ labelDist ℓ q j : ℝ) : EReal) := by
  have e : val_main_v28 L (ix3 q i j) = Ideal.pow (Ideal.ofBits .f32 0x40000000#32) (val_main_v10 L (ix2 q i))
      - Ideal.pow (Ideal.ofBits .f32 0x40000000#32) (val_main_v10 L (ix2 q j)) := by
    unfold val_main_v28 val_main_v27 val_main_v26 val_main_v25 val_main_v24 val_main_v23 val_main_v22 val_main_v18 val_main_v17
      val_main_cst_2 val_main_cst_3
    generalize val_main_v10 L = D
    pointwise
  rw [e, dist_read h, dist_read h, ofBits_two, pow_two_nat, pow_two_nat, EReal.coe_sub]

/-- The first mask: image `i` is further than image `j`. -/
theorem further_read (h : Labels L ℓ) (q i j : Fin 256) :
    val_main_v21 L (ix3 q i j) = BitVec.ofBool (decide (labelDist ℓ q j < labelDist ℓ q i)) := by
  have e : val_main_v21 L (ix3 q i j) = BitVec.ofBool (decide (val_main_v10 L (ix2 q j) < val_main_v10 L (ix2 q i))) := by
    unfold val_main_v21 val_main_v20 val_main_v19 val_main_v18 val_main_v17
    generalize val_main_v10 L = D
    pointwise
  rw [e, dist_read h, dist_read h]
  simp only [EReal.coe_lt_coe_iff, Nat.cast_lt]

/-- The second mask: the counted pairs. -/
theorem near_read (h : Labels L ℓ) (q i j : Fin 256) :
    val_main_v45 L (ix3 q i j) = BitVec.ofBool (decide (Near (labelDist ℓ q) i j)) := by
  have e : val_main_v45 L (ix3 q i j) = IntOp.andi (val_main_v21 L (ix3 q i j))
      (BitVec.ofBool (decide (val_main_v10 L (ix2 q i) - val_main_v10 L (ix2 q j) ≤ Ideal.ofBits .f32 0x40000000#32))) := by
    unfold val_main_v45 val_main_v44 val_main_v43 val_main_v42 val_main_v41 val_main_v40 val_main_v18 val_main_v17 val_main_cst_8
    generalize val_main_v10 L = D
    generalize val_main_v21 L = M
    pointwise
  have n : (labelDist ℓ q i : ℝ) - labelDist ℓ q j ≤ 2 ↔ labelDist ℓ q i ≤ labelDist ℓ q j + 2 := by
    rw [sub_le_iff_le_add', ← Nat.cast_ofNat, ← Nat.cast_add, Nat.cast_le]
  rw [e, further_read h, dist_read h, dist_read h, ofBits_two, ← EReal.coe_sub]
  simp only [EReal.coe_le_coe_iff, n, Near]
  by_cases a : labelDist ℓ q j < labelDist ℓ q i <;> by_cases b : labelDist ℓ q i ≤ labelDist ℓ q j + 2 <;>
    simp [a, b, IntOp.andi]

/-- The reference's hinges. -/
theorem hinge_read (q i j : Fin 256) : val_main_v39 H (ix3 q i j) = hinge H q i j := by
  unfold hinge
  rw [← sim_read, ← sim_read]
  unfold val_main_v39 val_main_v38 val_main_v37 val_main_v36 val_main_v35 val_main_v34 val_main_v33 val_main_v32 val_main_v31
    val_main_cst_6 val_main_cst_7
  generalize val_main_v16 H = S
  pointwise

/-- A choice by a mask's bit. -/
theorem select_bit {α : Type} (p : Prop) [Decidable p] (x y : α) :
    Scalar.select (BitVec.ofBool (decide p)) x y = if p then x else y := by
  by_cases h : p <;> simp [h, Scalar.select]

/-- The reference's denominators. -/
theorem den_read (h : Labels L ℓ) (q : Fin 256) : val_main_v30 L (ix1 q) = (den (labelDist ℓ q) : EReal) := by
  have e : val_main_v30 L (ix1 q) = ∑ i, ∑ j, Scalar.select (val_main_v21 L (ix3 q i j)) (val_main_v28 L (ix3 q i j)) 0 := by
    unfold val_main_v30 val_main_v29
    generalize val_main_v21 L = M
    generalize val_main_v28 L = W
    pointwise [val_main_call0_v1, val_main_call0_v0, val_main_cst_4, val_main_cst_5]
    simp only [id]
    pointwise
  simp only [e, further_read h, weight_read h, select_bit, den, coe_sum, coe_ite, EReal.coe_zero]

/-- The reference's numerators. -/
theorem num_read (h : Labels L ℓ) (q : Fin 256) : val_main_v48 H L (ix1 q) = num (labelDist ℓ q) (hinge H q) := by
  have e : val_main_v48 H L (ix1 q)
      = ∑ i, ∑ j, Scalar.select (val_main_v45 L (ix3 q i j)) (val_main_v28 L (ix3 q i j) * val_main_v39 H (ix3 q i j)) 0 := by
    unfold val_main_v48 val_main_v47 val_main_v46
    generalize val_main_v45 L = M
    generalize val_main_v28 L = W
    generalize val_main_v39 H = R
    pointwise [val_main_call1_v1, val_main_call1_v0, val_main_cst_9, val_main_cst_10]
    simp only [id]
    pointwise
  simp only [e, near_read h, weight_read h, hinge_read, select_bit, num]

/-- The reference's number of counted pairs. -/
theorem cnt_read (h : Labels L ℓ) : val_main_v58 L ix0 = ∑ q, (cnt (labelDist ℓ q) : EReal) := by
  have e : val_main_v58 L ix0 = ∑ q, ∑ i, ∑ j, FloatOps.uitofp (F := Ideal) .f32 (val_main_v45 L (ix3 q i j)) := by
    unfold val_main_v58 val_main_v57
    generalize val_main_v45 L = M
    pointwise [val_main_cst_16]
  have b : ∀ (p : Prop) [Decidable p],
      FloatOps.uitofp (F := Ideal) .f32 (BitVec.ofBool (decide p)) = ((if p then 1 else 0 : ℝ) : EReal) := by
    intro p _
    refine congrArg (fun z : ℝ => (z : EReal)) ?_
    by_cases hp : p <;> simp [hp]
  simp only [e, near_read h, b, cnt, coe_sum]

/-- The reference's sum over the queries, from their denominators and numerators. -/
theorem losses_read : val_main_v56 H L ix0 = ∑ q, if 0 < val_main_v30 L (ix1 q) then
    Ideal.div (val_main_v48 H L (ix1 q)) (if 0 < val_main_v30 L (ix1 q) then val_main_v30 L (ix1 q) else 1) else 0 := by
  unfold val_main_v56 val_main_v55 val_main_v54 val_main_v53 val_main_v51 val_main_v50
  generalize val_main_v30 L = Z
  generalize val_main_v48 H L = N
  pointwise [val_main_call2_v1, val_main_call2_v0, val_main_call3_v1, val_main_call3_v0, val_main_v49, val_main_v52, val_main_cst_11,
    val_main_cst_12, val_main_cst_13, val_main_cst_14, val_main_cst_15]
  simp only [id]
  pointwise

/-- The reference's last lines, from the sum and the number of counted pairs. -/
theorem mean_read (i : S_.Idx) : val_main_v61 H L i = if 0 < val_main_v58 L i then
    Ideal.div (val_main_v56 H L i) (val_main_v58 L i) else val_main_v56 H L i := by
  rw [val_main_v61_apply, val_main_v59_apply, val_main_v60_apply]
  generalize val_main_v58 L i = C
  generalize val_main_v56 H L i = X
  rw [val_main_cst_17_apply, Ideal.ofBits_def, Ideal.ofBits_zero_f32]
  exact select_bit (0 < C) _ _

/-- The reference's number is the loss. -/
theorem val_read (h : Labels L ℓ) (i : S1.Idx) : val_main_v62 H L i = answer ℓ H := by
  have hi : ∃ k : S_.Idx, val_main_v62 H L i = val_main_v61 H L k := by
    unfold val_main_v62
    generalize val_main_v61 H L = X
    exact ⟨_, rfl⟩
  obtain ⟨k, hk⟩ := hi
  have e : ∀ z n : EReal, (if 0 < z then Ideal.div n (if 0 < z then z else 1) else 0) = if 0 < z then Ideal.div n z else 0 :=
    fun z n => by split <;> simp [*]
  rw [hk, mean_read, (funext fun a => a.elim0 : k = ix0), losses_read, cnt_read h]
  simp only [den_read h, num_read h, e]
  rfl

end Cert.ReferenceIdeal.Val

end
-- ==== Proof.Pre.lean ====
/- The precondition read off: labels that are all zero or one are natural numbers. -/
module

public import proofs.«01_k».proof.Proof.Nums
public import proofs.«01_k».proof.Proof.Gen.Pre_labels_zero_one
public import Idealize.ShloMosaic.Lib.ReduceAll

@[expose] public section

noncomputable section

namespace Cert.Pre_labels_zero_one.Val

open Cert.Pre_labels_zero_one Cert.Spec Idealize.ShloMosaic

/-- Under the precondition every label is zero or one. -/
theorem zero_or_one (H : FVec Ideal S256x64 .f32) (L : FVec Ideal S256x14 .f32) (hp : fn H L = fun _ => 1#1) (i : Fin 256)
    (k : Fin 14) : L (ix2 i k) = 0 ∨ L (ix2 i k) = 1 := by
  have : Subsingleton S_.Idx := ⟨fun a b => funext fun x => x.elim0⟩
  have h := Host.reduce_andi_all _ _ _ _ ix0 (congrFun hp ix0) (ix2 i k)
  have h' : IntOp.ori (BitVec.ofBool (decide (L (ix2 i k) = 0))) (BitVec.ofBool (decide (L (ix2 i k) = 1))) = 1#1 := by
    rw [← h]
    pointwise
  by_cases h0 : L (ix2 i k) = 0
  · exact .inl h0
  · by_cases h1 : L (ix2 i k) = 1
    · exact .inr h1
    · simp [h0, h1, IntOp.ori] at h'

/-- Under the precondition the labels are natural numbers, each zero or one. -/
theorem labels (H : FVec Ideal S256x64 .f32) (L : FVec Ideal S256x14 .f32) (hp : fn H L = fun _ => 1#1) : ∃ ℓ, Labels L ℓ := by
  classical
  refine ⟨fun i k => if L (ix2 i k) = 0 then 0 else 1, ⟨fun i k => by split <;> simp, fun i k => ?_⟩⟩
  rcases zero_or_one H L hp i k with h | h <;> simp [h]

end Cert.Pre_labels_zero_one.Val

end
-- ==== Proof.lean ====
module

public import proofs.«01_k».proof.Defs
public import proofs.«01_k».proof.Proof.Gen.Kernel.Frame
public import proofs.«01_k».proof.Proof.Gen.ReferenceIdeal.Run
public import proofs.«01_k».proof.Proof.Result
public import proofs.«01_k».proof.Proof.KernelValue
public import proofs.«01_k».proof.Proof.RefValue
public import proofs.«01_k».proof.Proof.Pre
public import Idealize.ShloMosaic.Lib.Claim
public import Idealize.ShloMosaic.Adequacy
public import Idealize.ShloMosaic.Init

@[expose] public section

noncomputable section

namespace Cert.Proof

open Idealize.ShloMosaic Idealize.SL.Sem

/-- For labels that are zero or one, the kernel's number is the reference's. -/
theorem value_eq (H : FVec Ideal ⟨2, ![256, 64]⟩ .f32) (L : FVec Ideal ⟨2, ![256, 14]⟩ .f32)
    (hp : Cert.Pre_labels_zero_one.fn H L = fun _ => 1#1) :
    Cert.ReferenceIdeal.Read.val_main_v62 (F := Ideal) H L = fun _ => Cert.KernelIdeal.Val.outVal (F := Ideal) L H (ix2 0 0) := by
  obtain ⟨ℓ, h⟩ := Cert.Pre_labels_zero_one.Val.labels H L hp
  funext i
  exact (Cert.ReferenceIdeal.Val.val_read h i).trans (Cert.KernelIdeal.Val.outVal_read h).symm

/-- The reference runs, leaves its arguments alone and ends with every semaphore at zero. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- In exact arithmetic the kernel and the reference end with equal results, for labels that are zero or one. -/
theorem algebraic : Cert.algebraic_KernelIdeal_ReferenceIdeal_pre_labels_zero_one := by
  intro m g m' g' hp hm
  refine ⟨fun c => fun _ => Cert.KernelIdeal.Val.outVal (F := Ideal)
    (m ((c.tc : Thread Cert.KernelIdeal.nD Cert.KernelIdeal.τ).loc Cert.KernelIdeal.main_arg1))
    (m ((c.tc : Thread Cert.KernelIdeal.nD Cert.KernelIdeal.τ).loc Cert.KernelIdeal.main_arg0)) (ix2 0 0),
    Cert.KernelIdeal.Val.run m g, ?_⟩
  refine (θ_run Cert.ReferenceIdeal.defs _ _).mono (fun r h c => ⟨?_, (h c).2⟩) (Cert.ReferenceIdeal.Value.run m' g')
  refine (h c).1.trans ((Cert.ReferenceIdeal.Read.val_main_v62_eq m' c).trans ?_)
  rw [(hm c).1, (hm c).2]
  exact value_eq _ _ (hp c)

/-- Every claim of the certificate. -/
theorem claim : Cert.Claim :=
  ⟨Cert.Kernel.Gen.facts, Cert.KernelIdeal.Gen.facts, Cert.ReferenceIdeal.Gen.facts, Cert.Pre_labels_zero_one.Gen.facts,
    fun m ρ _ => Cert.Kernel.Gen.frame m ρ,
    fun m ρ _ => Cert.KernelIdeal.Gen.frame m ρ,
    fun m ρ _ => Cert.KernelIdeal.Gen.frame m ρ,
    frame_reference,
    fun m g _ => frame_reference m g trivial,
    trivial,
    algebraic⟩

end Cert.Proof

end
